-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x64x128 : Shape := ⟨3, ![4096, 64, 128]⟩
abbrev S64x128x128 : Shape := ⟨3, ![64, 128, 128]⟩
abbrev S64x128 : Shape := ⟨2, ![64, 128]⟩
abbrev S256x64x128 : Shape := ⟨3, ![256, 64, 128]⟩
abbrev S64x256x128 : Shape := ⟨3, ![64, 256, 128]⟩
abbrev S1x64x128 : Shape := ⟨3, ![1, 64, 128]⟩

abbrev nBuf : Space → Nat
  | .hbm => 4
  | .vmem => 6
  | .smem => 0
  | _ => 0

abbrev bufTy : (tb : Table) → Fin (tcTables nBuf tb) → BufTy
  | .hbm, ⟨0, _⟩ => ⟨S4096x64x128, .f32⟩
  | .hbm, ⟨1, _⟩ => ⟨S64x128x128, .f32⟩
  | .hbm, ⟨2, _⟩ => ⟨S64x128, .f32⟩
  | .hbm, ⟨3, _⟩ => ⟨S4096x64x128, .f32⟩
  | .local _ .vmem, ⟨0, _⟩ => ⟨S256x64x128, .f32⟩
  | .local _ .vmem, ⟨1, _⟩ => ⟨S256x64x128, .f32⟩
  | .local _ .vmem, ⟨2, _⟩ => ⟨S64x128x128, .f32⟩
  | .local _ .vmem, ⟨3, _⟩ => ⟨S64x128, .f32⟩
  | .local _ .vmem, ⟨4, _⟩ => ⟨S256x64x128, .f32⟩
  | .local _ .vmem, ⟨5, _⟩ => ⟨S256x64x128, .f32⟩
  | _, _ => ⟨S4096x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S4096x64x128 : Shape := ⟨3, ![4096, 64, 128]⟩
abbrev S64x128x128 : Shape := ⟨3, ![64, 128, 128]⟩
abbrev S64x128 : Shape := ⟨2, ![64, 128]⟩
abbrev S64x128x4096 : Shape := ⟨3, ![64, 128, 4096]⟩
abbrev S1x64x128 : Shape := ⟨3, ![1, 64, 128]⟩

abbrev nBuf : Space → Nat
  | .hbm => 8
  | .vmem => 0
  | .smem => 0
  | _ => 0

abbrev bufTy : (tb : Table) → Fin (tcTables nBuf tb) → BufTy
  | .hbm, ⟨0, _⟩ => ⟨S4096x64x128, .f32⟩
  | .hbm, ⟨1, _⟩ => ⟨S64x128x128, .f32⟩
  | .hbm, ⟨2, _⟩ => ⟨S64x128, .f32⟩
  | .hbm, ⟨3, _⟩ => ⟨S64x128x4096, .f32⟩
  | .hbm, ⟨4, _⟩ => ⟨S4096x64x128, .f32⟩
  | .hbm, ⟨5, _⟩ => ⟨S1x64x128, .f32⟩
  | .hbm, ⟨6, _⟩ => ⟨S4096x64x128, .f32⟩
  | .hbm, ⟨7, _⟩ => ⟨S4096x64x128, .f32⟩
  | _, _ => ⟨S4096x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Linear.lean ====
/-
  The function both programs compute, over the extended reals: one affine map per expert.
  Token `n`, expert `e`, output feature `f` get the inner product of the token's row for that expert with row `f` of
  the expert's weight matrix, plus the expert's bias at `f`. The number of tokens is a parameter, so that the same
  formula speaks of the whole array (4096 tokens) and of the tile of 256 tokens that one grid point works on.
-/
module

public import Idealize.ShloMosaic.PureOps
public import Idealize.ShloMosaic.PureOps.Ideal
public import Idealize.ShloMosaic.Lib.ValueIdx

@[expose] public section

noncomputable section

open Idealize.ShloMosaic Idealize.ShloMosaic.ValueIdx
open scoped BigOperators

namespace Cert.Linear

/-- Inputs or outputs for `n` tokens: a row of 128 features per token and expert. -/
abbrev Rows (n : ℕ) : Type := Vec Ideal ⟨3, ![n, 64, 128]⟩ .f32

/-- A 128 by 128 matrix per expert, stored with the output feature first. -/
abbrev Weights : Type := Vec Ideal ⟨3, ![64, 128, 128]⟩ .f32

/-- A bias row per expert. -/
abbrev Biases : Type := Vec Ideal ⟨2, ![64, 128]⟩ .f32

/-- The experts' affine maps: `out[n, e, f] = Σ_d x[n, e, d] · w[e, f, d] + b[e, f]`. -/
def experts {n : ℕ} (x : Rows n) (w : Weights) (b : Biases) : Rows n := fun j =>
  (∑ d : Fin 128, x (ix3 (j 0) (j 1) d) * w (ix3 (j 1) (j 2) d)) + b (ix2 (j 1) (j 2))

/-- A token's outputs depend on that token's inputs alone: if token `i` of one array is token `j` of another, expert
    by expert and feature by feature, and the output coordinates agree, then so do the outputs. -/
theorem experts_congr {n n' : ℕ} (x : Rows n) (x' : Rows n') (w w' : Weights) (b b' : Biases)
    (j : Shape.Idx ⟨3, ![n, 64, 128]⟩) (j' : Shape.Idx ⟨3, ![n', 64, 128]⟩)
    (h1 : (j 1 : Fin 64) = j' 1) (h2 : (j 2 : Fin 128) = j' 2)
    (hx : ∀ d : Fin 128, x (ix3 (j 0) (j 1) d) = x' (ix3 (j' 0) (j' 1) d))
    (hw : w = w') (hb : b = b') :
    experts x w b j = experts x' w' b' j' := by
  subst hw hb
  unfold experts
  refine congrArg₂ (· + ·) (Finset.sum_congr rfl fun d _ => ?_) ?_
  · rw [hx d]; exact congrArg (x' (ix3 (j' 0) (j' 1) d) * ·) (by rw [h1, h2])
  · rw [h1, h2]

end Cert.Linear

end
-- ==== Proof.Tile.lean ====
/-
  What one grid point stores: the batched product of its tile of 256 tokens with all the weights, its first two axes
  swapped back to token-then-expert, plus the biases repeated over the tokens. Read at an index, that is the experts'
  affine maps of the tile (Linear.lean).
-/
module

public import proofs.«01_k».proof.Proof.Linear
public import proofs.«01_k».proof.Proof.Gen.KernelIdeal.Skeleton
public import Idealize.ShloMosaic.Lib.Pointwise

@[expose] public section

set_option maxRecDepth 16384

noncomputable section

open Idealize.ShloMosaic Idealize.ShloMosaic.ValueIdx

namespace Cert.Tile

open Cert.KernelIdeal Cert.KernelIdeal.Gen

/-- The stored tile, at every index, is the affine maps of the tile's tokens: the accumulator that the product starts
    from is zero, and the product's terms are those of the inner product. -/
theorem stored_eq (x : Vec Ideal S256x64x128 .f32) (w : Vec Ideal S64x128x128 .f32) (b : Vec Ideal S64x128 .f32)
    (y : S256x64x128.Idx) : k0_pay1 (F := Ideal) x w b y = Linear.experts x w b y := by
  pointwise! [k0_pay1, Linear.experts]

end Cert.Tile

end
-- ==== Proof.Array.lean ====
/-
  What the output array holds after the run: the 16 grid points write their tiles of 256 tokens side by side, and
  together the tiles are the experts' affine maps of all 4096 tokens.
-/
module

public import proofs.«01_k».proof.Proof.Tile
public import proofs.«01_k».proof.Proof.Gen.KernelIdeal.Value
public import Idealize.ShloMosaic.Lib.Pipeline.ValueKit

@[expose] public section

set_option maxRecDepth 16384

noncomputable section

open Idealize.ShloMosaic Idealize.ShloMosaic.ValueIdx Idealize.ShloMosaic.TcCoe Idealize.SL.Sem
open Idealize.ShloMosaic.Pipeline (Dat)

namespace Cert.Array

open Cert.KernelIdeal Cert.KernelIdeal.Gen

variable (m : (ℓ : Loc nD τ sig) → Buf (Elt Ideal) ℓ)

/-- Where the windows stand at grid point `t`: inputs and outputs at tile `t` of the token axis, weights and biases at
    their only block. -/
theorem place : ∀ t : Fin cfg0.N, win0_0.index t = ![t.val, 0, 0] ∧ win0_1.index t = ![0, 0, 0]
    ∧ win0_2.index t = ![0, 0] ∧ win0_3.index t = ![t.val, 0, 0] :=
  (by decide +kernel : ∀ t : Fin grid0.N, _)

/-- Every grid point sees the whole weight array. -/
theorem weights_whole (c : Dev nD) (t : Fin cfg0.N) : iblk m c 1 t = m ((c : Thread nD τ).loc main_arg1) := by
  blk_ext! [iblk, V, place t]

/-- Every grid point sees the whole bias array. -/
theorem biases_whole (c : Dev nD) (t : Fin cfg0.N) : iblk m c 2 t = m ((c : Thread nD τ).loc main_arg2) := by
  blk_ext! [iblk, V, place t]

/-- The output array after the run is the affine maps of the argument arrays. -/
theorem final (c : Dev nD) : (dats m 0 c).arrAt 3 cfg0.N
    = Linear.experts (m ((c : Thread nD τ).loc main_arg0)) (m ((c : Thread nD τ).loc main_arg1))
        (m ((c : Thread nD τ).loc main_arg2)) := by
  refine (dats m 0 c).arrAt_eq_of_covers 3 _ (by decide +kernel) fun t hf y => ?_
  blk_simp
  rw [after0_3]
  frame_out
  rw [Tile.stored_eq]
  have e0 : (((cfg0.win 3).blk t).view.emb y 0 : ℕ) = t.val * 256 + (y 0).val := by blk_simp [place t]
  have e1 : (((cfg0.win 3).blk t).view.emb y 1 : ℕ) = (y 1).val := by blk_simp [place t]
  have e2 : (((cfg0.win 3).blk t).view.emb y 2 : ℕ) = (y 2).val := by blk_simp [place t]
  generalize ((cfg0.win 3).blk t).view.emb y = j at e0 e1 e2 ⊢
  refine Linear.experts_congr _ _ _ _ _ _ y j (Fin.ext e1.symm) (Fin.ext e2.symm) (fun d => ?_)
    (weights_whole m c t) (biases_whole m c t)
  blk_ext [iblk, V, place t]
  · exact e0.symm
  · exact e1.symm

end Cert.Array

end
-- ==== Proof.Reference.lean ====
/-
  What the reference computes: its einsum, printed as a batched product of the weights with the inputs and a transpose
  that brings the token axis first, plus the biases broadcast over the tokens, is the experts' affine maps (Linear.lean).
-/
module

public import proofs.«01_k».proof.Proof.Linear
public import proofs.«01_k».proof.Proof.Gen.ReferenceIdeal.Run
public import Idealize.ShloMosaic.Lib.Pointwise

@[expose] public section

set_option maxRecDepth 16384

noncomputable section

open Idealize.ShloMosaic Idealize.ShloMosaic.ValueIdx

namespace Cert.Reference

open Cert.ReferenceIdeal Cert.ReferenceIdeal.Gen

/-- The reference's result as its five operations compose it. -/
def result (x : Vec Ideal S4096x64x128 .f32) (w : Vec Ideal S64x128x128 .f32) (b : Vec Ideal S64x128 .f32) :
    Vec Ideal S4096x64x128 .f32 :=
  addf (F := Ideal) (φ := .f32)
    (transpose S4096x64x128 [2, 0, 1]
      (Host.dotGeneral (F := Ideal) (φ₁ := .f32) (φ₂ := .f32) dot_S64x128x128_S4096x64x128_S64x128x4096_2_2_1_0_0_1 none w x)
      transposes_S64x128x4096_S4096x64x128_2_0_1)
    (broadcastInDim S4096x64x128 ![0, 1, 2] bcast_S1x64x128_S4096x64x128_0_1_2
      (broadcastInDim S1x64x128 ![1, 2] bcast_S64x128_S1x64x128_1_2 b))

/-- It is the affine maps of all the tokens: the product's factors stand in the other order, which over the extended
    reals makes no difference. -/
theorem result_eq (x : Vec Ideal S4096x64x128 .f32) (w : Vec Ideal S64x128x128 .f32) (b : Vec Ideal S64x128 .f32) :
    result x w b = Linear.experts x w b := by
  funext j
  pointwise! [result, Linear.experts]

end Cert.Reference

end
-- ==== Proof.lean ====
/-
  The certificate's claim, assembled: the frames of the two kernel programs are generated, the
  reference's is its generated run, read; no operation was rewritten on the way to the ideal
  programs; and over the extended reals kernel and reference both compute the experts' affine maps (Proof/Linear.lean):
  the kernel by Proof/Array.lean, the reference by Proof/Reference.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Array
public import proofs.«01_k».proof.Proof.Reference
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The reference's frame: its run keeps the arguments, and it declares no semaphore. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono
    (fun r h => ⟨fun c => (h c).2, sem_eq_zero_of_no_sems (by decide) r.2⟩)
    (Cert.ReferenceIdeal.Value.run (F := Ideal) m g)

/-- Kernel and reference end with the same array, the affine maps of the arguments. -/
theorem same_values : Cert.algebraic_KernelIdeal_ReferenceIdeal := by
  pair_intro
  · run_from Cert.KernelIdeal.Value.run_blocks m g
  · run_from Cert.ReferenceIdeal.Value.run m' g'
    rw [Cert.Array.final m c]
    exact Cert.Reference.result_eq _ _ _

/-- Everything the certificate claims. -/
theorem claim : Cert.Claim := ⟨Cert.Kernel.Gen.facts, Cert.KernelIdeal.Gen.facts, Cert.ReferenceIdeal.Gen.facts,
  fun m g _ => Cert.Kernel.Gen.frame m g,
  fun m g _ => Cert.KernelIdeal.Gen.frame m g,
  fun m g _ => reference_frame m g,
  trivial,
  same_values⟩

end Cert.Proof

end
